-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S1x32 : Shape := ⟨2, ![1, 32]⟩
abbrev S10000x32 : Shape := ⟨2, ![10000, 32]⟩
abbrev S25x400x10000 : Shape := ⟨3, ![25, 400, 10000]⟩
abbrev S400x10000 : Shape := ⟨2, ![400, 10000]⟩
abbrev S400x32 : Shape := ⟨2, ![400, 32]⟩
abbrev S1x400x10000 : Shape := ⟨3, ![1, 400, 10000]⟩

abbrev nBuf : Space → Nat
  | .hbm => 12
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x32, .f32⟩
  | .hbm, ⟨8, _⟩ => ⟨S1x32, .f32⟩
  | .hbm, ⟨9, _⟩ => ⟨S10000x32, .fp8e4m3⟩
  | .hbm, ⟨10, _⟩ => ⟨S25x400x10000, .fp8e4m3⟩
  | .hbm, ⟨11, _⟩ => ⟨S10000x32, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S10000x128, .f32⟩
  | .local _ .vmem, ⟨4, _⟩ => ⟨S128x32, .f32⟩
  | .local _ .vmem, ⟨5, _⟩ => ⟨S1x32, .f32⟩
  | .local _ .vmem, ⟨6, _⟩ => ⟨S32x32, .f32⟩
  | .local _ .vmem, ⟨7, _⟩ => ⟨S400x32, .fp8e4m3⟩
  | .local _ .vmem, ⟨8, _⟩ => ⟨S400x32, .fp8e4m3⟩
  | .local _ .vmem, ⟨9, _⟩ => ⟨S1x400x10000, .fp8e4m3⟩
  | .local _ .vmem, ⟨10, _⟩ => ⟨S1x400x10000, .fp8e4m3⟩
  | .local _ .vmem, ⟨11, _⟩ => ⟨S10000x32, .f32⟩
  | .local _ .vmem, ⟨12, _⟩ => ⟨S1x400x10000, .fp8e4m3⟩
  | .local _ .vmem, ⟨13, _⟩ => ⟨S1x400x10000, .fp8e4m3⟩
  | .local _ .vmem, ⟨14, _⟩ => ⟨S10000x32, .fp8e4m3⟩
  | .local _ .vmem, ⟨15, _⟩ => ⟨S1x32, .f32⟩
  | .local _ .vmem, ⟨16, _⟩ => ⟨S400x32, .f32⟩
  | .local _ .vmem, ⟨17, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2_0 : Ref sig .tc := ⟨.hbm, 9, rfl⟩
abbrev main_call0_v2_1 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x32 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x400x10000 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x400x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S_ : Shape := ⟨0, ![]⟩
abbrev S10000x32 : Shape := ⟨2, ![10000, 32]⟩
abbrev S1x32 : Shape := ⟨2, ![1, 32]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x32, .f32⟩
  | .hbm, ⟨12, _⟩ => ⟨S10000x32, .f32⟩
  | .hbm, ⟨13, _⟩ => ⟨S1x32, .f32⟩
  | .hbm, ⟨14, _⟩ => ⟨S10000x32, .f32⟩
  | .hbm, ⟨15, _⟩ => ⟨S10000x32, .f32⟩
  | .hbm, ⟨16, _⟩ => ⟨S_, .f32⟩
  | .hbm, ⟨17, _⟩ => ⟨S10000x32, .f32⟩
  | .hbm, ⟨18, _⟩ => ⟨S10000x32, .f32⟩
  | .hbm, ⟨19, _⟩ => ⟨S10000x32, .f32⟩
  | .hbm, ⟨20, _⟩ => ⟨S10000x32, .f32⟩
  | .hbm, ⟨21, _⟩ => ⟨S1x32, .f32⟩
  | .hbm, ⟨22, _⟩ => ⟨S10000x32, .f32⟩
  | .hbm, ⟨23, _⟩ => ⟨S10000x32, .f32⟩
  | .hbm, ⟨24, _⟩ => ⟨S_, .f32⟩
  | .hbm, ⟨25, _⟩ => ⟨S10000x32, .f32⟩
  | .hbm, ⟨26, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.BodyFused.lean ====
/-
  The first call's body (`cc0__fused_mid_kernel`): one run of it on staging buffers whose contents are named, at a
  point that fills the scratch (the first) and at a point that only reads it (every other).
-/
module

public import proofs.«01_k».proof.Proof.Gen.KernelIdeal.Skeleton
public import proofs.«01_k».proof.Proof.Gen.KernelIdeal.Points
public import Idealize.ShloMosaic.Lib.Tactic
public import Idealize.ShloMosaic.Lib.Pipeline.ValueKit

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- The body's test at a point: whether it is the grid's first. -/
abbrev firstTest (i : grid0.Coords) : BitVec 1 :=
  Scalar.cmpi .ne (Scalar.extui (Scalar.cmpi .eq (BitVec.ofNat 32 (i 0).val) 0#32) : BitVec 32) 0#32

/-- The test succeeds at the first point of the grid. -/
theorem firstTest_first : ∀ t : Fin grid0.N, t.val = 0 → firstTest (grid0.coords t) = 1#1 := by decide +kernel

/-- The test fails at every other point. -/
theorem firstTest_later : ∀ t : Fin grid0.N, t.val ≠ 0 → firstTest (grid0.coords t) ≠ 1#1 := by decide +kernel

section

variable (c : Dev nD) (i : grid0.Coords)
    (M1 : Memref sig .tc .vmem S400x10000 .f32) (h1 : M1.IsWhole) (M2 : Memref sig .tc .vmem S10000x128 .f32) (h2 : M2.IsWhole)
    (M3 : Memref sig .tc .vmem S10000x128 .f32) (h3 : M3.IsWhole) (M4 : Memref sig .tc .vmem S128x32 .f32) (h4 : M4.IsWhole)
    (M5 : Memref sig .tc .vmem S1x32 .f32) (h5 : M5.IsWhole) (M6 : Memref sig .tc .vmem S32x32 .f32) (h6 : M6.IsWhole)
    (M7 : Memref sig .tc .vmem S400x32 .fp8e4m3) (h7 : M7.IsWhole) (M8 : Memref sig .tc .vmem S1x400x10000 .fp8e4m3) (h8 : M8.IsWhole)
    (M9 : Memref sig .tc .vmem S10000x32 .f32) (h9 : M9.IsWhole)
    (X1 : Vec F S400x10000 .f32) (X2 X3 : Vec F S10000x128 .f32) (X4 : Vec F S128x32 .f32) (X5 : Vec F S1x32 .f32)
    (X6 : Vec F S32x32 .f32) (X7 : Vec F S400x32 .fp8e4m3) (X8 : Vec F S1x400x10000 .fp8e4m3) (X9 : Vec F S10000x32 .f32)

/-- At a point that passes the test, whatever the scratch holds: the body leaves in it `k0_pay1` of the two feature arrays and
    the first weights, and in the results' buffers `k0_pay2` and `k0_pay3`, the former over the scratch just filled. -/
theorem fused_run_first (hi : firstTest i = 1#1) (Q : PUnit → sProp 𝕄) :
    iprop(owns c M1 fullShare X1 ∗ owns c M2 fullShare X2 ∗ owns c M3 fullShare X3 ∗ owns c M4 fullShare X4
      ∗ owns c M5 fullShare X5 ∗ owns c M6 fullShare X6 ∗ owns c M7 fullShare X7 ∗ owns c M8 fullShare X8 ∗ owns c M9 fullShare X9
      ∗ (iprop(owns c M1 fullShare X1 ∗ owns c M2 fullShare X2 ∗ owns c M3 fullShare X3 ∗ owns c M4 fullShare X4
          ∗ owns c M5 fullShare X5 ∗ owns c M6 fullShare X6
          ∗ owns c M7 fullShare (k0_pay2 X1 (k0_pay1 X2 X3 X4) X5 X6) ∗ owns c M8 fullShare (k0_pay3 X1)
          ∗ owns c M9 fullShare (k0_pay1 X2 X3 X4)) -∗ Q ⟨⟩))
    ⊢ wp frame (wpE (defs₀ (F := F)) Variants.none c none) Set.univ
        (cc0__fused_mid_kernel i M1 h1 M2 h2 M3 h3 M4 h4 M5 h5 M6 h6 M7 h7 M8 h8 M9 h9) Q := by
  rw [cc0__fused_mid_kernel_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, -, H7⟩, ⟨%f8, -, H8⟩, ⟨%f9, -, H9⟩, Hk⟩
  subst e1 e2 e3 e4 e5 e6
  unfold cc0__fused_mid_kernel_skel
  simp only [dif_pos hi]
  sl_exec!
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [View.read_writes_junk_eq_canon]
    frame_out
  isplitl [H8]
  · iexists _; isplitr; swap; · iexact H8
    ipureintro
    rw [View.read_writes_junk_eq_canon]
    frame_out
  iexists _; isplitr; swap; · iexact H9
  ipureintro
  rw [View.read_writes_junk_eq_canon]
  frame_out

/-- At a point that fails the test: the body reads the scratch as it finds it and leaves it so, the results' buffers at
    `k0_pay2` and `k0_pay3`. The feature arrays and the first weights are not read. -/
theorem fused_run_later (hi : firstTest i ≠ 1#1) (Q : PUnit → sProp 𝕄) :
    iprop(owns c M1 fullShare X1 ∗ owns c M5 fullShare X5 ∗ owns c M6 fullShare X6 ∗ owns c M7 fullShare X7
      ∗ owns c M8 fullShare X8 ∗ owns c M9 fullShare X9
      ∗ (iprop(owns c M1 fullShare X1 ∗ owns c M5 fullShare X5 ∗ owns c M6 fullShare X6
          ∗ owns c M7 fullShare (k0_pay2 X1 X9 X5 X6) ∗ owns c M8 fullShare (k0_pay3 X1) ∗ owns c M9 fullShare X9) -∗ Q ⟨⟩))
    ⊢ wp frame (wpE (defs₀ (F := F)) Variants.none c none) Set.univ
        (cc0__fused_mid_kernel i M1 h1 M2 h2 M3 h3 M4 h4 M5 h5 M6 h6 M7 h7 M8 h8 M9 h9) Q := by
  rw [cc0__fused_mid_kernel_eq_skeleton]
  unfold owns
  iintro ⟨⟨%f1, %e1, H1⟩, ⟨%f5, %e5, H5⟩, ⟨%f6, %e6, H6⟩, ⟨%f7, -, H7⟩, ⟨%f8, -, H8⟩, ⟨%f9, %e9, H9⟩, Hk⟩
  subst e1 e5 e6 e9
  unfold cc0__fused_mid_kernel_skel
  simp only [dif_neg hi]
  sl_exec!
  sl_step
  iapply Hk
  isplitl [H1]; · iexists f1; isplitr; · ipureintro; rfl
                  iexact H1
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [View.read_writes_junk_eq_canon]
    frame_out
  isplitl [H8]
  · iexists _; isplitr; swap; · iexact H8
    ipureintro
    rw [View.read_writes_junk_eq_canon]
    frame_out
  iexists f9; isplitr; · ipureintro; rfl
  iexact H9

end

end Cert.Proof

end
-- ==== Proof.BodyFinal.lean ====
/-
  The second call's body (`cc1__final_kernel`): one run of it on staging buffers whose contents are named.
-/
module

public import proofs.«01_k».proof.Proof.Gen.KernelIdeal.Skeleton
public import proofs.«01_k».proof.Proof.Gen.KernelIdeal.Points
public import Idealize.ShloMosaic.Lib.Tactic
public import Idealize.ShloMosaic.Lib.Pipeline.ValueKit

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- From the three operands' buffers holding `X1`, `X2` and `X3` and the result's buffer holding anything, the body
    runs to its end, leaves the operands as they were and the result's buffer at `k1_pay1 X1 X2 X3`. -/
theorem final_run (c : Dev nD) (i : grid1.Coords)
    (M1 : Memref sig .tc .vmem S1x400x10000 .fp8e4m3) (h1 : M1.IsWhole) (M2 : Memref sig .tc .vmem S10000x32 .fp8e4m3) (h2 : M2.IsWhole)
    (M3 : Memref sig .tc .vmem S1x32 .f32) (h3 : M3.IsWhole) (M4 : Memref sig .tc .vmem S400x32 .f32) (h4 : M4.IsWhole)
    (X1 : Vec F S1x400x10000 .fp8e4m3) (X2 : Vec F S10000x32 .fp8e4m3) (X3 : Vec F S1x32 .f32) (X4 : Vec F S400x32 .f32)
    (Q : PUnit → sProp 𝕄) :
    iprop(owns c M1 fullShare X1 ∗ owns c M2 fullShare X2 ∗ owns c M3 fullShare X3 ∗ owns c M4 fullShare X4
      ∗ (iprop(owns c M1 fullShare X1 ∗ owns c M2 fullShare X2 ∗ owns c M3 fullShare X3
          ∗ owns c M4 fullShare (k1_pay1 X1 X2 X3)) -∗ Q ⟨⟩))
    ⊢ wp frame (wpE (defs₀ (F := F)) Variants.none c none) Set.univ (cc1__final_kernel i M1 h1 M2 h2 M3 h3 M4 h4) Q := by
  rw [cc1__final_kernel_eq_skeleton]
  unfold owns
  iintro ⟨⟨%f1, %e1, H1⟩, ⟨%f2, %e2, H2⟩, ⟨%f3, %e3, H3⟩, ⟨%f4, -, H4⟩, Hk⟩
  subst e1 e2 e3
  unfold cc1__final_kernel_skel
  sl_exec!
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr; swap; · iexact H4
  ipureintro
  rw [View.read_writes_junk_eq_canon]
  frame_out

end Cert.Proof

end
-- ==== Proof.RegionFinal.lean ====
/-
  The second call as the pipeline runs it: what every staging buffer holds before and after the body at a point, and
  the proof that the body meets this at every point.
-/
module

public import proofs.«01_k».proof.Proof.BodyFinal
public import proofs.«01_k».proof.Proof.Gen.KernelIdeal.Launch

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable {U : Type} [URA U]

local notation "𝕄" => MT nD τ sig Unit (Elt F) ℕ U ℕ

/-- The contents of every buffer of every core, as a call finds them. -/
abbrev Bufs (F : FTy → Type) : Type := (c : Dev nD) → (b : Ref sig .tc) → Buf (Elt F) ((c : Thread nD τ).loc b)

variable (V : Bufs F)

/-- The block of window `w`'s array at point `t`. -/
abbrev blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The second call's data: the arrays as found; after the body each operand's buffer still at its block and the result's
    at `k1_pay1` of the three blocks; every other scoped buffer at anything. -/
def dat1 (c : Dev nD) : Dat τ (Elt F) Unit ℕ U ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay1 (blk1 V c 0 t) (blk1 V c 1 t) (blk1 V c 2 t)
  Φ _ := Pipeline.scopedRest (Ix := Unit) (Name := ℕ) (U := U) (Lvl := ℕ) (Val := Elt F) spec1 c
  q _ := fullShare
  owed _ := 0

/-- The body finds the first operand's block in its buffer. -/
theorem before1_0 (c : Dev nD) (t : Fin cfg1.N) (d) : (dat1 (U := U) V c).before 0 t d = blk1 V c 0 t :=
  (dat1 V c).before_in_eq_fetched 0 rfl (fun _ => rfl) (fun _ _ _ => rfl) (fun _ => rfl) t d
/-- The body finds the second operand's block in its buffer. -/
theorem before1_1 (c : Dev nD) (t : Fin cfg1.N) (d) : (dat1 (U := U) V c).before 1 t d = blk1 V c 1 t :=
  (dat1 V c).before_in_eq_fetched 1 rfl (fun _ => rfl) (fun _ _ _ => rfl) (fun _ => rfl) t d
/-- The body finds the third operand's block in its buffer. -/
theorem before1_2 (c : Dev nD) (t : Fin cfg1.N) (d) : (dat1 (U := U) V c).before 2 t d = blk1 V c 2 t :=
  (dat1 V c).before_in_eq_fetched 2 rfl (fun _ => rfl) (fun _ _ _ => rfl) (fun _ => rfl) t d

/-- The pipeline's call of the body at point `t` is the body on that point's staging buffers. -/
theorem defs₀_row1 (t : Fin cfg1.N) : defs₀ (F := F) .tc cfg1.body (cfg1.bodyArgs t (cfg1.slots t)) = bodyAt1 t := by
  unfold defs₀; rw [Defs.onTc_tc]

/-- The body meets the data at every point. -/
theorem obligation1 (c : Dev nD) : BodyObligation (dat1 (U := U) V c) (defs₀ (F := F)) Variants.none () Set.univ := fun t => by
  rw [bigSep_W1, bigSep_W1, defs₀_row1]
  rw [show (dat1 (U := U) V c).Φ t.succ = (dat1 (U := U) V c).Φ t.castSucc from rfl,
    show (dat1 (U := U) V c).owesAt () t.succ = (dat1 (U := U) V c).owesAt () t.castSucc from rfl]
  iintro ⟨HΦ, HO, ⟨%d0, H0⟩, ⟨%d1, H1⟩, ⟨%d2, H2⟩, ⟨%d3, H3⟩⟩
  rw [before1_0, before1_1, before1_2]
  iapply (final_run c (grid1.coords t) (st1_0 t) _ (st1_1 t) _ (st1_2 t) _ (st1_3 t) _ (blk1 V c 0 t) (blk1 V c 1 t) (blk1 V c 2 t)
    ((dat1 (U := U) V c).before 3 t d3))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

end Cert.Proof

end
-- ==== Proof.RegionFused.lean ====
/-
  The first call as the pipeline runs it.  Its first point leaves `k0_pay1` of the whole feature, goal and weight arrays in
  the scratch buffer, and every later point reads it there: the data says so, and the body meets it at every point.
-/
module

public import proofs.«01_k».proof.Proof.BodyFused
public import proofs.«01_k».proof.Proof.RegionFinal

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable {U : Type} [URA U]

local notation "𝕄" => MT nD τ sig Unit (Elt F) ℕ U ℕ

variable (V : Bufs F)

/-- The block of window `w`'s array at point `t`. -/
abbrev blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The first point. -/
abbrev start0 : Fin cfg0.N := ⟨0, by decide⟩

/-- What the first point leaves in the scratch buffer. -/
def feat (c : Dev nD) : Vec F S10000x32 .f32 := k0_pay1 (blk0 V c 1 start0) (blk0 V c 2 start0) (blk0 V c 3 start0)

/-- The scoped buffers of the second call, each at anything. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- What is held between points: the scratch buffer at anything before the first and at `feat` after it. -/
def inv0 (c : Dev nD) (n : ℕ) : sProp 𝕄 :=
  if n = 0 then iprop((∃ f : Vec F S10000x32 .f32, owns (c : Thread nD τ) (Memref.whole cc0_scratch0) fullShare f) ∗ others c)
  else iprop(owns (c : Thread nD τ) (Memref.whole cc0_scratch0) fullShare (feat V c) ∗ others c)

/-- Before the first point the scratch buffer holds anything. -/
theorem inv0_zero (c : Dev nD) : inv0 (U := U) V c 0
    = iprop((∃ f : Vec F S10000x32 .f32, owns (c : Thread nD τ) (Memref.whole cc0_scratch0) fullShare f) ∗ others c) := if_pos rfl

/-- After a point the scratch buffer holds `feat`. -/
theorem inv0_pos (c : Dev nD) {n : ℕ} (h : n ≠ 0) : inv0 (U := U) V c n
    = iprop(owns (c : Thread nD τ) (Memref.whole cc0_scratch0) fullShare (feat V c) ∗ others c) := if_neg h

/-- The scoped buffers no window of the first call stages are what it holds before its first point. -/
theorem scoped_inv0 (c : Dev nD) : (Pipeline.scopedRest (Ix := Unit) (Name := ℕ) (U := U) (Lvl := ℕ) (Val := Elt F) spec0 c : sProp 𝕄)
    ⊢ inv0 V c 0 := by
  rw [inv0_zero, scopedRest0_eq]
  unfold others
  iintro ⟨⟨%f, H⟩, HO⟩
  isplitl [H]
  · iexists f
    rw [owns_whole]
    iexact H
  · iexact HO

/-- They are what it holds after its last point, the scratch buffer's contents forgotten. -/
theorem inv0_scoped (c : Dev nD) {n : ℕ} (h : n ≠ 0) :
    inv0 V c n ⊢ (Pipeline.scopedRest (Ix := Unit) (Name := ℕ) (U := U) (Lvl := ℕ) (Val := Elt F) spec0 c : sProp 𝕄) := by
  rw [inv0_pos V c h, scopedRest0_eq, owns_whole]
  unfold others
  iintro ⟨H, HO⟩
  isplitl [H]
  · iexists (feat V c)
    iexact H
  · iexact HO

/-- The first call's data: the arrays as found; after the body each operand's buffer still at its block, the first
    result's at `k0_pay2` over the scratch buffer's contents, the second's at `k0_pay3`. -/
def dat0 (c : Dev nD) : Dat τ (Elt F) Unit ℕ U ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => k0_pay2 (blk0 V c 0 t) (feat V c) (blk0 V c 4 t) (blk0 V c 5 t)
    | ⟨7, _⟩ => k0_pay3 (blk0 V c 0 t)
  Φ t := inv0 V c t.val
  q _ := fullShare
  owed _ := 0

/-- The body finds operand 0's block in its buffer. -/
theorem before0_0 (c : Dev nD) (t : Fin cfg0.N) (d) : (dat0 (U := U) V c).before 0 t d = blk0 V c 0 t :=
  (dat0 V c).before_in_eq_fetched 0 rfl (fun _ => rfl) (fun _ _ _ => rfl) (fun _ => rfl) t d
/-- The body finds operand 1's block in its buffer. -/
theorem before0_1 (c : Dev nD) (t : Fin cfg0.N) (d) : (dat0 (U := U) V c).before 1 t d = blk0 V c 1 t :=
  (dat0 V c).before_in_eq_fetched 1 rfl (fun _ => rfl) (fun _ _ _ => rfl) (fun _ => rfl) t d
/-- The body finds operand 2's block in its buffer. -/
theorem before0_2 (c : Dev nD) (t : Fin cfg0.N) (d) : (dat0 (U := U) V c).before 2 t d = blk0 V c 2 t :=
  (dat0 V c).before_in_eq_fetched 2 rfl (fun _ => rfl) (fun _ _ _ => rfl) (fun _ => rfl) t d
/-- The body finds operand 3's block in its buffer. -/
theorem before0_3 (c : Dev nD) (t : Fin cfg0.N) (d) : (dat0 (U := U) V c).before 3 t d = blk0 V c 3 t :=
  (dat0 V c).before_in_eq_fetched 3 rfl (fun _ => rfl) (fun _ _ _ => rfl) (fun _ => rfl) t d
/-- The body finds operand 4's block in its buffer. -/
theorem before0_4 (c : Dev nD) (t : Fin cfg0.N) (d) : (dat0 (U := U) V c).before 4 t d = blk0 V c 4 t :=
  (dat0 V c).before_in_eq_fetched 4 rfl (fun _ => rfl) (fun _ _ _ => rfl) (fun _ => rfl) t d
/-- The body finds operand 5's block in its buffer. -/
theorem before0_5 (c : Dev nD) (t : Fin cfg0.N) (d) : (dat0 (U := U) V c).before 5 t d = blk0 V c 5 t :=
  (dat0 V c).before_in_eq_fetched 5 rfl (fun _ => rfl) (fun _ _ _ => rfl) (fun _ => rfl) t d

/-- The pipeline's call of the body at point `t` is the body on that point's staging buffers. -/
theorem defs₀_row0 (t : Fin cfg0.N) : defs₀ (F := F) .tc cfg0.body (cfg0.bodyArgs t (cfg0.slots t)) = bodyAt0 t := by
  unfold defs₀; rw [Defs.onTc_tc]

/-- The body meets the data at every point. -/
theorem obligation0 (c : Dev nD) : BodyObligation (dat0 (U := U) V c) (defs₀ (F := F)) Variants.none () Set.univ := fun t => by
  rw [bigSep_W0, bigSep_W0, defs₀_row0]
  rw [show (dat0 (U := U) V c).Φ t.succ = inv0 V c (t.val + 1) from rfl, show (dat0 (U := U) V c).Φ t.castSucc = inv0 V c t.val from rfl,
    show (dat0 (U := U) V c).owesAt () t.succ = (dat0 (U := U) V c).owesAt () t.castSucc from rfl,
    inv0_pos V c (Nat.succ_ne_zero t.val)]
  by_cases h0 : t.val = 0
  · obtain rfl : t = start0 := Fin.ext h0
    rw [show inv0 (U := U) V c start0.val = _ from inv0_zero V c]
    iintro ⟨⟨⟨%f, HS⟩, HR⟩, HO, ⟨%d0, H0⟩, ⟨%d1, H1⟩, ⟨%d2, H2⟩, ⟨%d3, H3⟩, ⟨%d4, H4⟩, ⟨%d5, H5⟩, ⟨%d6, H6⟩, ⟨%d7, H7⟩⟩
    rw [before0_0, before0_1, before0_2, before0_3, before0_4, before0_5]
    iapply (fused_run_first c (grid0.coords start0) (st0_0 start0) _ (st0_1 start0) _ (st0_2 start0) _ (st0_3 start0) _ (st0_4 start0) _
      (st0_5 start0) _ (st0_6 start0) _ (st0_7 start0) _ (Memref.whole cc0_scratch0) _
      (blk0 V c 0 start0) (blk0 V c 1 start0) (blk0 V c 2 start0) (blk0 V c 3 start0) (blk0 V c 4 start0) (blk0 V c 5 start0)
      ((dat0 (U := U) V c).before 6 start0 d6) ((dat0 (U := U) V c).before 7 start0 d7) f (firstTest_first start0 h0))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR]
    · isplitl [HS]; · iexact HS
      iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv0_pos V c h0]
    iintro ⟨⟨HS, HR⟩, HO, ⟨%d0, H0⟩, ⟨%d1, H1⟩, ⟨%d2, H2⟩, ⟨%d3, H3⟩, ⟨%d4, H4⟩, ⟨%d5, H5⟩, ⟨%d6, H6⟩, ⟨%d7, H7⟩⟩
    rw [before0_0, before0_1, before0_2, before0_3, before0_4, before0_5]
    iapply (fused_run_later c (grid0.coords t) (st0_0 t) _ (st0_1 t) _ (st0_2 t) _ (st0_3 t) _ (st0_4 t) _
      (st0_5 t) _ (st0_6 t) _ (st0_7 t) _ (Memref.whole cc0_scratch0) _
      (blk0 V c 0 t) (blk0 V c 4 t) (blk0 V c 5 t)
      ((dat0 (U := U) V c).before 6 t d6) ((dat0 (U := U) V c).before 7 t d7) (feat V c) (firstTest_later t h0))
    isplitl [H0]; · iexact H0
    isplitl [H4]; · iexact H4
    isplitl [H5]; · iexact H5
    isplitl [H6]; · iexact H6
    isplitl [H7]; · iexact H7
    isplitl [HS]; · iexact HS
    iintro ⟨H0, H4, H5, H6, H7, HS⟩
    isplitl [HS HR]
    · isplitl [HS]; · iexact HS
      iexact HR
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Proof

end
-- ==== Proof.Run.lean ====
/-
  The whole program.  @main is two reshapes on the host and the two calls.  Between two of its items a core holds every
  unscoped buffer whole at known contents: `atCall0`, `atCall1`, `atEnd`.  The run theorem says that every execution
  terminates with every unscoped buffer at `atEnd` and every semaphore at zero.
-/
module

public import proofs.«01_k».proof.Proof.RegionFused
public import proofs.«01_k».proof.Proof.Gen.KernelIdeal.Regions
public import Idealize.ShloMosaic.Lib.Pipeline.FrameTail

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)

variable {F : FTy → Type} [FloatOps F]

local notation "𝕄" => MT nD τ sig Unit (Elt F) ℕ (UR sig nD τ) ℕ

/-! ## What the buffers hold between items -/

variable (m : (ℓ : Loc nD τ sig) → Buf (Elt F) ℓ)

/-- Core `c`'s buffers when the first call is entered: the two reshapes have run. -/
def atCall0 (c : Dev nD) : Valuation τ sig (Elt F) := StableHlo.after hostOps0 (V0 m c)
/-- The same, by reference. -/
abbrev bufs0 : Bufs F := fun c b => atCall0 m c (Proc.devRef .tc b)
/-- Core `c`'s buffers when the second call is entered. -/
def atCall1 (c : Dev nD) : Valuation τ sig (Elt F) := Pipeline.afterRegion (dat0 (U := UR sig nD τ) (bufs0 m) c) (atCall0 m c)
/-- The same, by reference. -/
abbrev bufs1 : Bufs F := fun c b => atCall1 m c (Proc.devRef .tc b)
/-- Core `c`'s buffers at the end. -/
def atEnd (c : Dev nD) : Valuation τ sig (Elt F) := Pipeline.afterRegion (dat1 (U := UR sig nD τ) (bufs1 m) c) (atCall1 m c)

/-- The data of the two calls. -/
def dats : (p : Fin 2) → (c : Dev nD) → Dat τ (Elt F) Unit ℕ (UR sig nD τ) ℕ (cfgs p) c
  | ⟨0, _⟩ => fun c => dat0 (bufs0 m) c
  | ⟨1, _⟩ => fun c => dat1 (bufs1 m) c

/-! ## One call as a segment -/

/-- What rides beside the buffers: the core owes nothing. -/
abbrev idle (c : Dev nD) : sProp 𝕄 := iprop(∃ W, owes (c : Thread nD τ) (0 : CellTallies nD τ sig Unit) W)

/-- No core owes another anything: no level is assigned. -/
abbrev noLevel : GSem nD τ sig → Finset Unit := fun _ => ∅
/-- The level of nothing. -/
abbrev level0 : GSem nD τ sig → Unit → ℕ := fun _ _ => 0

-- the library's lemmas on a call's arrays are stated at the pinned configuration, and unify with ours only when unification
-- may unfold plain definitions in a metavariable's type
set_option backward.isDefEq.respectTransparency.types false in
/-- A call whose data owes nothing and gives the scoped buffers back, entered from `W` and left at what the pipeline
    makes of it. -/
def callSeg (pd : (p : Fin 2) → (c : Dev nD) → Dat τ (Elt F) Unit ℕ (UR sig nD τ) ℕ (cfgs p) c) (p : Fin 2)
    (kit : Pipeline.LaunchFacts (nD := nD) (τ := τ) cfgs p)
    (hbody : ∀ c, BodyObligation (pd p c) (defs₀ (F := F)) Variants.none () Set.univ)
    (hq : ∀ c w, (pd p c).q w = fullShare) (howed : ∀ c t, (pd p c).owed t = 0)
    (hrec : ∀ c, (pd p c).recorded 0 = Set.univ) (W : Dev nD → Valuation τ sig (Elt F))
    (hA : ∀ c w, (pd p c).A w = W c (Proc.devRef .tc (Pipeline.arrRef (cfgs p).spec w)))
    (hin : ∀ c, (Pipeline.scopedRest (Ix := Unit) (Name := ℕ) (U := UR sig nD τ) (Lvl := ℕ) (Val := Elt F) (cfgs p).spec c : sProp 𝕄) ⊢ (pd p c).Φ 0)
    (hout : ∀ c, (pd p c).Φ (Fin.last (cfgs p).N) ⊢ (Pipeline.scopedRest (Ix := Unit) (Name := ℕ) (U := UR sig nD τ) (Lvl := ℕ) (Val := Elt F) (cfgs p).spec c : sProp 𝕄)) :
    RegionSeg (pcfgs (F := F)) adm pd () defs₀ Variants.none noLevel level0 p where
  win := (kit.toP (Val := Elt F)).win.to₀
  block_pos := (kit.toP (Val := Elt F)).block_pos
  stage_whole := (kit.toP (Val := Elt F)).stage_whole
  K := PEmpty
  osem k := k.elim
  ho := Pipeline.OwnSemFacts.none _
  hbody c := (hbody c).loose
  hwaits := Pipeline.hwaits_of_owed_zero _ _ _ _ noLevel level0 p howed
  pre c := iprop(StableHlo.held (c : Thread nD τ) (Pipeline.ucRefs τ sig) (W c) ∗ idle c)
  post c := iprop(StableHlo.held (c : Thread nD τ) (Pipeline.ucRefs τ sig) (Pipeline.afterRegion (pd p c) (W c)) ∗ idle c)
  X _ := BI.emp
  Y _ := BI.emp
  Z c := Pipeline.unscopedRest (Ix := Unit) (Name := ℕ) (U := UR sig nD τ) (Lvl := ℕ) (cfgs p).spec c (fun b => W c (Proc.devRef .tc b))
  hentry c := by
    rw [Pipeline.ownSems0_none, ← Pipeline.unscopedBufs_held (Ix := Unit) (Name := ℕ) (U := UR sig nD τ) (Lvl := ℕ) c (W c)]
    have hsplit := Pipeline.arrays_of_unscopedBufs (p := p) (pcfgs (F := F)) adm pd (kit.toP (Val := Elt F)).win (kit.toP (Val := Elt F)).arr_whole c
      ((pd p c).share_full (hq c)) (fun b => W c (Proc.devRef .tc b)) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W', HO⟩; iexists W'; isplitr; · ipureintro; exact fun _ _ => Or.inl (by rw [hrec c]; trivial)
      iexact HO
    isplitr; · iempintro
    iexact Hrest
  hin c := by
    refine .trans ?_ (hin c)
    iintro ⟨-, -, Hr⟩; iexact Hr
  hout c := by
    rw [Pipeline.ownSems0_none]
    refine (hout c).trans ?_
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ)
      (kit.toP (Val := Elt F)).win (kit.toP (Val := Elt F)).arr_whole c pd ((pd p c).share_full (hq c))
      (fun b => W c (Proc.devRef .tc b)) (fun b => Pipeline.afterRegion (pd p c) (W c) (Proc.devRef .tc b)) ((pd p c).arrAt · (cfgs p).N)
      (fun w => (Pipeline.afterRegion_arr (pd p c) (W c) kit.win.arr_inj w).symm)
      (fun b hb => Pipeline.afterRegion_of_not_arr (pd p c) (W c) fun w h => hb (h ▸ Finset.mem_image.mpr ⟨w, Finset.mem_univ _, rfl⟩))
    rw [← Pipeline.unscopedBufs_held (Ix := Unit) (Name := ℕ) (U := UR sig nD τ) (Lvl := ℕ) c (Pipeline.afterRegion (pd p c) (W c))]
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%W', -, HO⟩; iexists W'; iexact HO

/-- The first call. -/
def call0 : RegionSeg (pcfgs (F := F)) adm (dats m) () defs₀ Variants.none noLevel level0 0 :=
  callSeg (dats m) 0 launch0 (fun c => obligation0 (bufs0 m) c) (fun _ _ => rfl) (fun _ _ => rfl) (fun _ => rfl) (atCall0 m) (fun _ _ => rfl)
    (fun c => scoped_inv0 (bufs0 m) c) (fun c => inv0_scoped (bufs0 m) c (n := cfg0.N) (by decide))

/-- The second call. -/
def call1 : RegionSeg (pcfgs (F := F)) adm (dats m) () defs₀ Variants.none noLevel level0 1 :=
  callSeg (dats m) 1 launch1 (fun c => obligation1 (bufs1 m) c) (fun _ _ => rfl) (fun _ _ => rfl) (fun _ => rfl) (atCall1 m) (fun _ _ => rfl)
    (fun _ => .rfl) (fun _ => .rfl)

/-- What the first call leaves is what the second is entered from. -/
theorem call0_post (c : Dev nD) : (call0 m).post c = (call1 m).pre c := rfl

/-- What the second call leaves. -/
theorem call1_post (c : Dev nD) :
    (call1 m).post c = iprop(StableHlo.held (c : Thread nD τ) (Pipeline.ucRefs τ sig) (atEnd m c) ∗ idle c) := rfl

/-! ## The launch -/

-- as above, for the launch theorem's implicit arguments
set_option backward.isDefEq.respectTransparency.types false in
/-- Every execution terminates, and at its end every unscoped buffer holds `atEnd` and every semaphore is at zero. -/
theorem run (ρ : Dev nD → PrngReg) :
    θ_run defs (onTc (τ := τ) (main (F := F))) ⟨m, fun _ => 0, ρ⟩ (fun r =>
      (∀ (c : Dev nD) (b : Ref sig .tc), b.isScoped = false → r.2.mem ((c : Thread nD τ).loc b) = atEnd m c (Proc.devRef .tc b))
      ∧ r.2.sem = fun _ => 0) :=
  Pipeline.θ_run_regions_kit_dev_sems (pcfgs (F := F)) adm (dats m) () cellOf_inj emb₁ defs₀ Variants.none noLevel level0 m ρ main
    (segs m Variants.none noLevel level0 (fun _ c => idle c) () (dats m) (call0 m) (call1 m))
    (fun c Q => by
      rewrite [main_chain c, Seg.run_eq_chain,
        show (segs m Variants.none noLevel level0 (fun _ c => idle c) () (dats m) (call0 m) (call1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idle c))
    (Tₙ := fun c => StableHlo.held (c : Thread nD τ) (Pipeline.ucRefs τ sig) (atEnd m c))
    (hch := fun _ => ⟨.rfl, .rfl, Entails.of_eq (call0_post m _), Entails.of_eq (call1_post m _)⟩)
    (hinit := by
      refine Pipeline.initEach noLevel level0 fun c => ?_
      rw [show unscopedBufs c (fun b => m ((c.tc : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = atEnd m c b)
    (hfin := fun c s' => by
      unfold StableHlo.held
      iintro ⟨Hh, HSI⟩
      ihave Hr := (pointsTo_read_all (Pipeline.ucRefs τ sig) (fun b => ((c : Thread nD τ).1, b)) (atEnd m c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

/-! ## What the end says of the arguments and of the result -/

/-- A buffer that no call's window is on and no reshape writes ends as launched. -/
theorem atEnd_kept (c : Dev nD) (b : Ref sig .tc) (h1 : ∀ w, b ≠ Pipeline.arrRef spec1 w)
    (h0 : ∀ w, b = Pipeline.arrRef spec0 w → (spec0 w).isOut = false) (hh : b ∉ hostOps0_W) :
    atEnd m c (Proc.devRef .tc b) = m ((c : Thread nD τ).loc b) := by
  have e1 : atEnd m c (Proc.devRef .tc b) = atCall1 m c (Proc.devRef .tc b) := Pipeline.afterRegion_of_not_arr _ _ h1
  have e0 : atCall1 m c (Proc.devRef .tc b) = atCall0 m c (Proc.devRef .tc b) := by
    by_cases hw : ∃ w, b = Pipeline.arrRef spec0 w
    · obtain ⟨w, rfl⟩ := hw
      exact (Pipeline.afterRegion_arr (dat0 (U := UR sig nD τ) (bufs0 m) c) (atCall0 m c) launch0.win.arr_inj w).trans
        ((dat0 (U := UR sig nD τ) (bufs0 m) c).arrAt_in w (h0 w rfl) _)
    · exact Pipeline.afterRegion_of_not_arr _ _ fun w h => hw ⟨w, h⟩
  exact e1.trans (e0.trans (V1_of m c b hh))

/-- The result's buffer ends at what the second call's write-backs make of it. -/
theorem atEnd_result (c : Dev nD) :
    atEnd m c (Proc.devRef .tc main_v0) = (dat1 (U := UR sig nD τ) (bufs1 m) c).arrAt 3 cfg1.N :=
  Pipeline.afterRegion_arr (dat1 (U := UR sig nD τ) (bufs1 m) c) (atCall1 m c) launch1.win.arr_inj 3

/-- The second call finds the first result of the first call at what that call's write-backs make of it. -/
theorem bufs1_s2 (c : Dev nD) :
    bufs1 m c main_call0_v2_0 = (dat0 (U := UR sig nD τ) (bufs0 m) c).arrAt 6 cfg0.N :=
  Pipeline.afterRegion_arr (dat0 (U := UR sig nD τ) (bufs0 m) c) (atCall0 m c) launch0.win.arr_inj 6

/-- It finds the second result of the first call at what that call's write-backs make of it. -/
theorem bufs1_adj (c : Dev nD) :
    bufs1 m c main_call0_v2_1 = (dat0 (U := UR sig nD τ) (bufs0 m) c).arrAt 7 cfg0.N :=
  Pipeline.afterRegion_arr (dat0 (U := UR sig nD τ) (bufs0 m) c) (atCall0 m c) launch0.win.arr_inj 7

/-- It finds every buffer that is no array of the first call as the reshapes left it. -/
theorem bufs1_kept (c : Dev nD) (b : Ref sig .tc) (h : ∀ w, b ≠ Pipeline.arrRef spec0 w) : bufs1 m c b = bufs0 m c b :=
  Pipeline.afterRegion_of_not_arr _ _ h

/-- Every execution terminates with the result at the second call's write-backs, each argument as launched and every
    semaphore at zero. -/
theorem run_result (ρ : Dev nD → PrngReg) :
    θ_run defs (onTc (τ := τ) (main (F := F))) ⟨m, fun _ => 0, ρ⟩ (fun r =>
      (∀ c : Dev nD,
        r.2.mem ((c.tc : Thread nD τ).loc main_v0) = (dat1 (U := UR sig nD τ) (bufs1 m) c).arrAt 3 cfg1.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) :=
  θ_run_mono (run m ρ) fun _ h => ⟨fun c =>
    ⟨(h.1 c main_v0 rfl).trans (atEnd_result m c),
     (h.1 c main_arg0 rfl).trans (atEnd_kept m c main_arg0 (by decide) (by decide) (by decide)),
     (h.1 c main_arg1 rfl).trans (atEnd_kept m c main_arg1 (by decide) (by decide) (by decide)),
     (h.1 c main_arg2 rfl).trans (atEnd_kept m c main_arg2 (by decide) (by decide) (by decide)),
     (h.1 c main_arg3 rfl).trans (atEnd_kept m c main_arg3 (by decide) (by decide) (by decide)),
     (h.1 c main_arg4 rfl).trans (atEnd_kept m c main_arg4 (by decide) (by decide) (by decide)),
     (h.1 c main_arg5 rfl).trans (atEnd_kept m c main_arg5 (by decide) (by decide) (by decide)),
     (h.1 c main_arg6 rfl).trans (atEnd_kept m c main_arg6 (by decide) (by decide) (by decide))⟩, h.2⟩

end Cert.Proof

end
-- ==== Proof.Same.lean ====
/-
  The kernel's text appears twice: once to be run on bits, once to be read at the reals.  Over any floats the two are the same
  program.  The bodies, the windows and the host program agree by computation; the tables of bodies need their label opened.
-/
module

public import proofs.«01_k».proof.Defs
public import proofs.«01_k».proof.Proof.Gen.KernelIdeal
public import proofs.«01_k».proof.Proof.Gen.Kernel

@[expose] public section

noncomputable section

namespace Cert.Proof

open Idealize.ShloMosaic Idealize.SL.Sem

variable {F : FTy → Type} [FloatOps F]

/-- The first call's body is the same in both texts. -/
theorem fused_same : @Cert.Kernel.cc0__fused_mid_kernel F _ _ = @Cert.KernelIdeal.cc0__fused_mid_kernel F _ _ := rfl

/-- The second call's body is the same in both texts. -/
theorem final_same : @Cert.Kernel.cc1__final_kernel F _ _ = @Cert.KernelIdeal.cc1__final_kernel F _ _ := rfl

/-- The tables of the two bodies are the same: label by label. -/
theorem bodies_same : Cert.Kernel.defs₀ (F := F) = Cert.KernelIdeal.defs₀ :=
  congrArg Defs.onTc (funext fun l => funext fun a => match l, a with
    | ⟨0, _⟩, (_, _) => by dsimp only; rw [fused_same]; rfl
    | ⟨1, _⟩, (_, _) => by dsimp only; rw [final_same]; rfl
    | ⟨_ + 2, h⟩, _ => absurd h (Nat.not_lt.2 (Nat.le_add_left _ _)))

/-- With the pipelines around the bodies the tables are still the same. -/
theorem defs_same : Cert.Kernel.defs (F := F) = Cert.KernelIdeal.defs :=
  congrArg (Pipeline.defs Cert.KernelIdeal.pcfgs) bodies_same

/-- The host program around the calls is the same in both texts. -/
theorem main_same : Cert.Kernel.main (F := F) = Cert.KernelIdeal.main := rfl

end Cert.Proof

end
-- ==== Proof.Frames.lean ====
/-
  The three frames.  The kernel's text as printed and the same text read at the reals differ in nothing but their names, and
  the run theorem is stated for any floats, so one proof serves both.
-/
module

public import proofs.«01_k».proof.Defs
public import proofs.«01_k».proof.Proof.Run
public import proofs.«01_k».proof.Proof.Same
public import proofs.«01_k».proof.Proof.Gen.ReferenceIdeal.Run

@[expose] public section

noncomputable section

namespace Cert.Proof

open Idealize.ShloMosaic Idealize.SL.Sem

/-- The kernel read at the reals terminates with its arguments as launched and every semaphore at zero. -/
theorem frame_kernelIdeal : Cert.quiescent_KernelIdeal := fun m g _ =>
  θ_run_mono (run_result (F := Ideal) m g) fun _ h => ⟨fun c => (h.1 c).2, h.2⟩

/-- The kernel as printed terminates with its arguments as launched and every semaphore at zero. -/
theorem frame_kernel : Cert.quiescent_Kernel := fun m g _ => by
  rw [defs_same, main_same]
  exact θ_run_mono (run_result (F := Bits) m g) fun _ h => ⟨fun c => (h.1 c).2, h.2⟩

/-- The reference terminates with its arguments as launched and every semaphore, of which it has none, at zero. -/
theorem frame_reference : Cert.quiescent_ReferenceIdeal := fun m g _ =>
  θ_run_mono (Cert.ReferenceIdeal.Value.run (F := Ideal) m g) fun r h => ⟨fun c => (h c).2, sem_eq_zero_of_no_sems (by decide) r.2⟩

end Cert.Proof

end
-- ==== Proof.Terms.lean ====
/-
  The reference's term in its layers, over arrays of extended reals: the averaged features times the first weights, one graph
  layer, the projection by the second weights.  The result of the reference is two layers with a projection between them.
-/
module

public import proofs.«01_k».proof.Defs
public import proofs.«01_k».proof.Proof.Gen.ReferenceIdeal.Run

@[expose] public section

noncomputable section

namespace Cert.Proof

open Cert.ReferenceIdeal Cert.ReferenceIdeal.Gen
open Idealize.ShloMosaic Idealize.ShloMosaic.TcCoe Idealize.SL.Sem

/-- `((X + G) / 2) · W`: the mean of features and goal, projected. -/
abbrev support (X G : FVec Ideal S10000x128 .f32) (W : FVec Ideal S128x32 .f32) : FVec Ideal S10000x32 .f32 :=
  Host.dotGeneral dot_S10000x128_S128x32_S10000x32_1_0_0_1_n_n none
    (Host.divf (addf X G) (broadcastInDim S10000x128 ![] bcast_S_S10000x128 (constant S_ .f32 0x40000000#32))) W

/-- `max (A · H + B) 0`, the row `B` added to every row: one graph layer. -/
abbrev layer (A : FVec Ideal S10000x10000 .f32) (H : FVec Ideal S10000x32 .f32) (B : FVec Ideal S1x32 .f32) : FVec Ideal S10000x32 .f32 :=
  maximumf (addf (Host.dotGeneral dot_S10000x10000_S10000x32_S10000x32_1_0_0_1_n_n none A H)
    (broadcastInDim S10000x32 ![0, 1] bcast_S1x32_S10000x32_0_1 B))
    (broadcastInDim S10000x32 ![] bcast_S_S10000x32 (constant S_ .f32 0x00000000#32))

/-- `H · W`: the projection between the layers. -/
abbrev project (H : FVec Ideal S10000x32 .f32) (W : FVec Ideal S32x32 .f32) : FVec Ideal S10000x32 .f32 :=
  Host.dotGeneral dot_S10000x32_S32x32_S10000x32_1_0_0_1_n_n none H W

/-- A bias as one row. -/
abbrev row (b : FVec Ideal S32 .f32) : FVec Ideal S1x32 .f32 := broadcastInDim S1x32 ![1] bcast_S32_S1x32_1 b

/-- What the reference returns: two layers, the projection between them. -/
abbrev network (X : FVec Ideal S10000x128 .f32) (A : FVec Ideal S10000x10000 .f32) (G : FVec Ideal S10000x128 .f32)
    (W1 : FVec Ideal S128x32 .f32) (b1 : FVec Ideal S32 .f32) (W4 : FVec Ideal S32x32 .f32) (b4 : FVec Ideal S32 .f32) :
    FVec Ideal S10000x32 .f32 :=
  layer A (project (layer A (support X G W1) (row b1)) W4) (row b4)

end Cert.Proof

end
-- ==== Proof.ArrayFinal.lean ====
/-
  What the second call leaves in the kernel's result: one graph layer of the arrays it reads, the adjacency matrix in row blocks.
-/
module

public import proofs.«01_k».proof.Proof.RegionFinal
public import proofs.«01_k».proof.Proof.Terms
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.SL.Sem Idealize.SL.RA
open Idealize.ShloMosaic.Pipeline (Dat)

variable {U : Type} [URA U]

/-- An array of row blocks, read as the matrix it is the blocks of: row `r` is row `r % 400` of block `r / 400`. -/
abbrev unblock (A : FVec Ideal S25x400x10000 .fp8e4m3) : FVec Ideal Cert.ReferenceIdeal.S10000x10000 .f32 := fun i =>
  A (ix3 ⟨(i 0).val / 400, by have h : (i 0).val < 10000 := (i 0).isLt; omega⟩ ⟨(i 0).val % 400, Nat.mod_lt _ (by decide)⟩ (i 1))

/-- The block each window is at, at every point. -/
theorem places1 : ∀ t : Fin cfg1.N, t.val < 25 ∧ win1_0.index t = ![t.val, 0, 0] ∧ win1_1.index t = ![0, 0]
    ∧ win1_2.index t = ![0, 0] ∧ win1_3.index t = ![t.val, 0] :=
  (by decide +kernel : ∀ t : Fin grid1.N, _)

variable (V : Bufs Ideal)

/-- What the body stores at an index of its block is the layer at the array index it lies at. -/
theorem point1 (c : Dev nD) (t : Fin cfg1.N) (y) :
    k1_pay1 (blk1 V c 0 t) (blk1 V c 1 t) (blk1 V c 2 t) y
      = layer (unblock (V c main_call0_v2_1)) (V c main_call0_v2_0) (V c main_call0_v1) (((cfg1.win 3).blk t).view.emb y) := by
  pointwise [k1_pay1, layer]
  blk_point [blk1, unblock, places1 t]

/-- The result array after the second call. -/
theorem final_array (c : Dev nD) : (dat1 (U := U) V c).arrAt 3 cfg1.N
    = layer (unblock (V c main_call0_v2_1)) (V c main_call0_v2_0) (V c main_call0_v1) := by
  refine (dat1 (U := U) V c).arrAt_eq_of_covers 3 _ (by decide +kernel) fun t _ y => ?_
  blk_simp
  exact point1 V c t y

end Cert.Proof

end
-- ==== Proof.Half.lean ====
/-
  Halving: the kernel multiplies by the float word of 0.5 where the reference divides by the float word of 2.  On the extended
  reals these are the same, infinities included.
-/
module

public import proofs.«01_k».proof.Defs
public import Idealize.ShloMosaic.Lib.IdealHost

@[expose] public section

noncomputable section

namespace Cert.Proof

open Idealize.ShloMosaic

/-- The word of 2 denotes two. -/
theorem word_two : Ideal.ofBits .f32 0x40000000#32 = ((2 : ℝ) : EReal) := by
  simp [Ideal.ofBits, Ideal.ieee, -EReal.coe_mul]; norm_num

/-- The word of 0.5 denotes one half. -/
theorem word_half : Ideal.ofBits .f32 0x3F000000#32 = ((1 / 2 : ℝ) : EReal) := by
  simp [Ideal.ofBits, Ideal.ieee, -EReal.coe_mul]; norm_num

/-- Division by two is multiplication by one half. -/
theorem halve (x : EReal) : Ideal.div x (Ideal.ofBits .f32 0x40000000#32) = x * Ideal.ofBits .f32 0x3F000000#32 := by
  rw [word_two, word_half, Ideal.div_coe (by norm_num : (2 : ℝ) ≠ 0)]

end Cert.Proof

end
-- ==== Proof.ArrayFused.lean ====
/-
  What the first call leaves in its two results: the projected first layer of the arrays it reads, and the adjacency matrix
  itself, cut in row blocks.
-/
module

public import proofs.«01_k».proof.Proof.RegionFused
public import proofs.«01_k».proof.Proof.ArrayFinal
public import proofs.«01_k».proof.Proof.Half

@[expose] public section

set_option maxRecDepth 16384

noncomputable section

namespace Cert.Proof

open Cert.KernelIdeal Cert.KernelIdeal.Gen
open Idealize.ShloMosaic Idealize.ShloMosaic.TcCoe Idealize.SL.Sem Idealize.SL.RA
open Idealize.ShloMosaic.Pipeline (Dat)

variable {U : Type} [URA U]

/-- The block each window is at, at every point. -/
theorem places0 : ∀ t : Fin cfg0.N, t.val < 25 ∧ win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0, 0] :=
  (by decide +kernel : ∀ t : Fin grid0.N, _)

variable (V : Bufs Ideal)

/-- The features' block is their whole array. -/
theorem blk0_x (c : Dev nD) (t : Fin cfg0.N) : blk0 V c 1 t = V c main_arg0 := by blk_ext! [blk0, places0 t]

/-- The goal's block is its whole array. -/
theorem blk0_goal (c : Dev nD) (t : Fin cfg0.N) : blk0 V c 2 t = V c main_arg2 := by blk_ext! [blk0, places0 t]

/-- The first weights' block is their whole array. -/
theorem blk0_w (c : Dev nD) (t : Fin cfg0.N) : blk0 V c 3 t = V c main_arg3 := by blk_ext! [blk0, places0 t]

/-- The body's product over three whole arrays is the reference's support. -/
theorem pay_support (X G : FVec Ideal S10000x128 .f32) (W : FVec Ideal S128x32 .f32) : k0_pay1 X G W = support X G W := by
  funext y
  pointwise [k0_pay1, support]
  simp only [halve]

/-- What the first point leaves in the scratch buffer is the reference's support of the whole arrays. -/
theorem feat_support (c : Dev nD) : feat V c = support (V c main_arg0) (V c main_arg2) (V c main_arg3) := by
  unfold feat
  rw [blk0_x, blk0_goal, blk0_w]
  exact pay_support _ _ _

/-- What the body stores at an index of its first block is the projected layer at the array index it lies at. -/
theorem point0 (c : Dev nD) (t : Fin cfg0.N) (H : FVec Ideal S10000x32 .f32) (y) :
    k0_pay2 (blk0 V c 0 t) H (blk0 V c 4 t) (blk0 V c 5 t) y
      = project (layer (V c main_arg1) H (V c main_call0_v0)) (V c main_arg5) (((cfg0.win 6).blk t).view.emb y) := by
  pointwise [k0_pay2, project, layer]
  blk_point [blk0, places0 t]

/-- The first result after the first call. -/
theorem projected_array (c : Dev nD) : (dat0 (U := U) V c).arrAt 6 cfg0.N
    = project (layer (V c main_arg1) (support (V c main_arg0) (V c main_arg2) (V c main_arg3)) (V c main_call0_v0)) (V c main_arg5) := by
  refine (dat0 (U := U) V c).arrAt_eq_of_covers 6 _ (by decide +kernel) fun t _ y => ?_
  blk_simp
  rw [← feat_support]
  exact point0 V c t (feat V c) y

/-- The matrix whose row blocks are the second result is the adjacency matrix. -/
theorem unblock_array (c : Dev nD) : unblock ((dat0 (U := U) V c).arrAt 7 cfg0.N) = V c main_arg1 := by
  have h : (dat0 (U := U) V c).arrAt 7 cfg0.N = fun i : S25x400x10000.Idx => (V c main_arg1 : FVec Ideal S10000x10000 .f32)
      (ix2 ⟨400 * (i 0).val + (i 1).val, by
        have h0 : (i 0).val < 25 := (i 0).isLt
        have h1 : (i 1).val < 400 := (i 1).isLt
        omega⟩ (i 2)) := by
    refine (dat0 (U := U) V c).arrAt_eq_of_covers 7 _ (by decide +kernel) fun t _ y => ?_
    blk_simp
    show k0_pay3 (blk0 V c 0 t) y = _
    pointwise [k0_pay3]
    blk_point [blk0, places0 t]
  rw [h]
  funext i
  blk_ext [unblock]

end Cert.Proof

end
-- ==== Proof.Value.lean ====
/-
  The kernel's result is the reference's term: the arrays of the two calls put together, and the two biases, which the host
  program reshapes to one row before the calls.
-/
module

public import proofs.«01_k».proof.Proof.Run
public import proofs.«01_k».proof.Proof.ArrayFused
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.SL.Sem Idealize.SL.RA
open Idealize.ShloMosaic.Pipeline (Dat)

variable (m : (ℓ : Loc nD τ sig) → Buf (Elt Ideal) ℓ)

/-- A buffer the reshapes leave alone is as launched. -/
theorem bufs0_arg (c : Dev nD) (b : Ref sig .tc) (h : b ∉ hostOps0_W) : bufs0 m c b = m ((c : Thread nD τ).loc b) :=
  V1_of m c b h

/-- A bias reshaped to one row is that bias broadcast along a new first axis. -/
theorem reshape_row (b : FVec Ideal S32 .f32) : shapeCast S1x32 b shapeCasts_S32_S1x32 = row b := by
  funext i
  pointwise [row]

/-- Before the calls the first bias lies in one row. -/
theorem bufs0_b1 (c : Dev nD) : bufs0 m c main_call0_v0 = row (m ((c : Thread nD τ).loc main_arg4)) := by
  show StableHlo.after hostOps0 (fun b => m (c, b)) (Proc.devRef .tc main_call0_v0) = _
  entry_read
  exact reshape_row _

/-- Before the calls the second bias lies in one row. -/
theorem bufs0_b4 (c : Dev nD) : bufs0 m c main_call0_v1 = row (m ((c : Thread nD τ).loc main_arg6)) := by
  show StableHlo.after hostOps0 (fun b => m (c, b)) (Proc.devRef .tc main_call0_v1) = _
  entry_read
  exact reshape_row _

/-- The result array after both calls is the reference's term of the arguments. -/
theorem result_network (c : Dev nD) : (dat1 (U := UR sig nD τ) (bufs1 m) c).arrAt 3 cfg1.N
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [final_array, bufs1_adj, unblock_array, bufs1_s2, projected_array, bufs1_kept m c main_call0_v1 (by decide),
    bufs0_b1, bufs0_b4, bufs0_arg m c main_arg0 (by decide), bufs0_arg m c main_arg1 (by decide),
    bufs0_arg m c main_arg2 (by decide), bufs0_arg m c main_arg3 (by decide), bufs0_arg m c main_arg5 (by decide)]

end Cert.Proof

end
-- ==== Proof.lean ====
/-
  The claim: the three programs run and leave their arguments alone, nothing was replaced between the kernel as printed and
  the kernel read at the reals, and there the kernel's result is the reference's on all arguments.
-/
module

public import proofs.«01_k».proof.Defs
public import proofs.«01_k».proof.Proof.Frames
public import proofs.«01_k».proof.Proof.Value

@[expose] public section

noncomputable section

namespace Cert.Proof

open Idealize.ShloMosaic Idealize.ShloMosaic.TcCoe Idealize.SL.Sem

/-- Over the extended reals the kernel and the reference end with the same result, the arguments as launched. -/
theorem same_result : Cert.algebraic_KernelIdeal_ReferenceIdeal := fun m g m' g' _ h =>
  ⟨fun c => network (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    θ_run_mono (run_result (F := Ideal) m g) fun _ hr c => ⟨(hr.1 c).1.trans (result_network m c), (hr.1 c).2⟩,
    θ_run_mono (Cert.ReferenceIdeal.Value.run (F := Ideal) m' g') fun _ hr c => ⟨by
      obtain ⟨h0, h1, h2, h3, h4, h5, h6⟩ := h c
      rw [(hr c).1, h0, h1, h2, h3, h4, h5, h6], (hr c).2⟩⟩

theorem claim : Cert.Claim :=
  ⟨Cert.Kernel.Gen.facts, Cert.KernelIdeal.Gen.facts, Cert.ReferenceIdeal.Gen.facts,
    frame_kernel, frame_kernelIdeal, frame_reference, trivial, same_result⟩

end Cert.Proof

end
